-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S100000x128 : Shape := ⟨2, ![100000, 128]⟩
abbrev S1 : Shape := ⟨1, ![1]⟩
abbrev S90x128 : Shape := ⟨2, ![90, 128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S100000x128 .f32) (main_arg1 : IVec S1 32) (main_arg2 : FVec F S90x128 .f32) : IVec S_ 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 90#32
  let main_v2 : IVec S1 32 := broadcastInDim S1 ![] bcast_S_S1 main_c_0
  let main_v3 : IVec S1 1 := cmpi .slt main_arg1 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S100000x128 : Shape := ⟨2, ![100000, 128]⟩
abbrev S1 : Shape := ⟨1, ![1]⟩
abbrev S90x128 : Shape := ⟨2, ![90, 128]⟩
abbrev S11520 : Shape := ⟨1, ![11520]⟩
abbrev S128 : Shape := ⟨1, ![128]⟩
abbrev S_ : Shape := ⟨0, ![]⟩
abbrev S1x128 : Shape := ⟨2, ![1, 128]⟩
abbrev S25000x128 : Shape := ⟨2, ![25000, 128]⟩

abbrev nBuf : Table → Nat
  | .hbm => 7
  | .local .tc .vmem => 5
  | .local .scScalar .smem => 1
  | _ => 0

abbrev bufTy : (tb : Table) → Fin (nBuf tb) → BufTy
  | .hbm, ⟨0, _⟩ => ⟨S100000x128, .f32⟩
  | .hbm, ⟨1, _⟩ => ⟨S1, .i32⟩
  | .hbm, ⟨2, _⟩ => ⟨S90x128, .f32⟩
  | .hbm, ⟨3, _⟩ => ⟨S11520, .f32⟩
  | .hbm, ⟨4, _⟩ => ⟨S128, .f32⟩
  | .hbm, ⟨5, _⟩ => ⟨S1x128, .f32⟩
  | .hbm, ⟨6, _⟩ => ⟨S100000x128, .f32⟩
  | .local .tc .vmem, ⟨0, _⟩ => ⟨S25000x128, .f32⟩
  | .local .tc .vmem, ⟨1, _⟩ => ⟨S25000x128, .f32⟩
  | .local .tc .vmem, ⟨2, _⟩ => ⟨S1x128, .f32⟩
  | .local .tc .vmem, ⟨3, _⟩ => ⟨S25000x128, .f32⟩
  | .local .tc .vmem, ⟨4, _⟩ => ⟨S25000x128, .f32⟩
  | .local .scScalar .smem, ⟨0, _⟩ => ⟨S1, .i32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg1_scs : Ref sig .scScalar := ⟨.hbm, 1, rfl⟩
abbrev main_v0_scs : Ref sig .scScalar := ⟨.hbm, 3, rfl⟩
abbrev main_v1_scs : Ref sig .scScalar := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scScalar := ⟨.smem, 0, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v4 : BitVec 32) : Fin 1 → Nat :=
  let c128_i32 : BitVec 32 := 128#32
  let v5 : BitVec 32 := Scalar.muli v4 c128_i32
  ![v5.toNat]

def k0_chk1 (i : grid0.Coords) (v4 : BitVec 32) : Prop :=
  (∀ (k0_h1 : k0_cond1 i = 1#1), ∀ a, (k0_off1 v4) a + S128.size a ≤ S11520.size a)
theorem k0_off1_inb : ∀ (i : grid0.Coords) (v4 : BitVec 32) (k0_hw1 : k0_chk1 i v4), ∀ (k0_h1 : k0_cond1 i = 1#1), ∀ a, (k0_off1 v4) a + S128.size a ≤ S11520.size a := fun i v4 k0_hw1 k0_h1 => k0_hw1 k0_h1

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S100000x128 : Shape := ⟨2, ![100000, 128]⟩
abbrev S1 : Shape := ⟨1, ![1]⟩
abbrev S90x128 : Shape := ⟨2, ![90, 128]⟩
abbrev S_ : Shape := ⟨0, ![]⟩
abbrev S1x1 : Shape := ⟨2, ![1, 1]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1, .i32⟩
  | .hbm, ⟨2, _⟩ => ⟨S90x128, .f32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1x128, .f32⟩
  | .hbm, ⟨21, _⟩ => ⟨S1x128, .i1⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Setup.lean ====
/-
  The launch's set-up: the SparseCore configuration of the program, the resource algebra, the buffers by name, the
  values they take from host step to host step, and what the one SparseCore call is handed and hands back.
-/
module

public import Idealize.ShloMosaic.Lib.SparseCore.Quiescent
public import Idealize.ShloMosaic.Lib.StableHlo.Run
public import Idealize.ShloMosaic.Lib.Pipeline.Kit
public import Idealize.ShloMosaic.Lib.Pipeline.FrameBody
public import Idealize.ShloMosaic.Lib.Pipeline.RegionArraysS
public import Idealize.ShloMosaic.Lib.Pipeline.Value
public import Idealize.ShloMosaic.Lib.Tactic
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

/-! ## The program as the launch theorem reads it -/

/-- The labels of the TensorCore pipelines over the kernels' own. -/
abbrev ΛP : Labels := Pipeline.Sig Λ₀ (Fin 1) fun p => (pcfgs (F := F) p).Adm
/-- The SparseCore calls' configuration. -/
abbrev K : SparseCore.Cfg τ sig (ΛP (F := F)) 1 := sc (F := F)
/-- The body table below the SparseCore calls. -/
abbrev D [FloatOps F] : Defs nD τ sig (Elt F) (ΛP (F := F)) := Pipeline.defs pcfgs defs₀
/-- No variants of the kernels' own. -/
abbrev 𝒱₀ : Variants := Variants.none
/-- The variants with the pipelines'. -/
abbrev 𝒱 : Variants := 𝒱₀.lift
/-- The variant the SparseCore bodies are entered at. -/
abbrev v₀ : 𝒱.V := Sum.inl none

/-- The launch semaphores are four different ones and none is a kernel's; no buffer is shared by the tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The rounds of the SparseCore launch's handshakes, -/
abbrev UH : Type := URounds (GSem nD τ sig) ℕ
/-- the rounds of the TensorCore pipeline's staging cells, -/
abbrev UP : Type := URounds (GSem nD τ sig) Unit
/-- and beside them the counters of the sequencer's own copies. -/
abbrev UU : Type := UH × (UP × Counters)

local notation "𝕄" => MT nD τ sig (HIx 1) (Elt F) ℕ UU ℕ

/-- The handshakes' factor. -/
abbrev EH : Emb UH (MT nD τ sig (HIx 1) (Elt F) ℕ UU ℕ) := embL
/-- The pipeline's factor. -/
abbrev EP : Emb UP (MT nD τ sig (HIx 1) (Elt F) ℕ UU ℕ) := (Emb.inl : Emb UP (UP × Counters)).trans embR

/-- The pipeline's factor is storable in invariants. -/
instance EP_landsIn : (EP (F := F)).LandsIn (upEmb : UEmb _ (MT nD τ sig (HIx 1) (Elt F) ℕ UU ℕ)) := by
  unfold EP; infer_instance

/-! ## The buffers -/

/-- Where device `d` keeps the node states `x`, -/
abbrev xLoc (d : Dev nD) : Loc nD τ sig := (SparseCore.T d).loc main_arg0
/-- the identifier, -/
abbrev pLoc (d : Dev nD) : Loc nD τ sig := (SparseCore.T d).loc main_arg1
/-- the table, -/
abbrev eLoc (d : Dev nD) : Loc nD τ sig := (SparseCore.T d).loc main_arg2
/-- the table laid out flat, -/
abbrev flatLoc (d : Dev nD) : Loc nD τ sig := (SparseCore.T d).loc main_v0
/-- the row looked up, -/
abbrev rowLoc (d : Dev nD) : Loc nD τ sig := (SparseCore.T d).loc main_v1
/-- the row as a one-row matrix, -/
abbrev vecLoc (d : Dev nD) : Loc nD τ sig := (SparseCore.T d).loc main_v2
/-- and the result. -/
abbrev outLoc (d : Dev nD) : Loc nD τ sig := (SparseCore.T d).loc main_v3

/-- The same buffers as one device's. -/
abbrev x' : DevRef τ sig := Proc.devRef .tc (main_arg0 : Ref sig .tc)
abbrev p' : DevRef τ sig := Proc.devRef .tc (main_arg1 : Ref sig .tc)
abbrev e' : DevRef τ sig := Proc.devRef .tc (main_arg2 : Ref sig .tc)
abbrev flat' : DevRef τ sig := Proc.devRef .tc (main_v0 : Ref sig .tc)
abbrev row' : DevRef τ sig := Proc.devRef .tc (main_v1 : Ref sig .tc)
abbrev vec' : DevRef τ sig := Proc.devRef .tc (main_v2 : Ref sig .tc)
abbrev out' : DevRef τ sig := Proc.devRef .tc (main_v3 : Ref sig .tc)

/-- All seven. -/
abbrev S7 : Finset (DevRef τ sig) := {x', p', e', flat', row', vec', out'}

variable (m : (ℓ : Loc nD τ sig) → Buf (Elt F) ℓ)

/-! ## The values from step to step -/

/-- Laying the table out flat, -/
abbrev opFlat [FloatOps F] : HloOp τ sig (Elt F) :=
  StableHlo.reshape main_arg2 main_v0 (rfl : (.f32 : EltTy) = .f32) Facts₀.shapeCasts_S90x128_S11520
/-- and turning the row into a one-row matrix. -/
abbrev opVec [FloatOps F] : HloOp τ sig (Elt F) :=
  StableHlo.reshape main_v1 main_v2 (rfl : (.f32 : EltTy) = .f32) Facts₀.shapeCasts_S128_S1x128

/-- The one index of a one-element array. -/
def at0 : S1.Idx := fun a => ⟨0, by match a with | ⟨0, _⟩ => exact Nat.one_pos⟩
/-- Entry `n` of the flat table, counted round past its end. -/
def atFlat (n : ℕ) : S11520.Idx := fun a => ⟨n % 11520, by match a with | ⟨0, _⟩ => exact Nat.mod_lt _ (by decide)⟩

/-- The identifier on device `d`, a word. -/
def pid (d : Dev nD) : BitVec 32 := m (pLoc d) at0

/-- The identifiers name rows of the table: what the precondition says. -/
abbrev InRange : Prop := ∀ d, (pid m d).toNat < 90

/-- Everything as launched; -/
def W0 (d : Dev nD) : Valuation τ sig (Elt F) := fun b => m (d, b)
/-- the table laid out flat; -/
def W1 [FloatOps F] (d : Dev nD) : Valuation τ sig (Elt F) := (opFlat (F := F)).result (W0 m d)

/-- Row `p` of a flat table whose rows are 128 long. -/
def rowOf (p : ℕ) (f : S11520.Idx → Elt F .f32) : S128.Idx → Elt F .f32 := fun j => f (atFlat (p * 128 + (j 0).val))

/-- the row fetched; -/
def W2 [FloatOps F] (d : Dev nD) : Valuation τ sig (Elt F) :=
  Function.update (W1 m d) row' (rowOf (pid m d).toNat (W1 m d flat'))
/-- the row as a one-row matrix: what the addition is entered with. -/
def W3 [FloatOps F] (d : Dev nD) : Valuation τ sig (Elt F) := (opVec (F := F)).result (W2 m d)

/-! ## What the SparseCore call is handed -/

section Payloads

variable [FloatOps F]

/-- What SparseCore `c`'s sequencer is handed: number 0 the identifier, the flat table and the row's buffer, whatever is
    in it; number 1 nothing. -/
def handed (d : Dev nD) (c : ℕ) : sProp 𝕄 :=
  if c = 0 then iprop((pLoc d ↦{fullShare} m (pLoc d)) ∗ (flatLoc d ↦{fullShare} W1 m d flat') ∗ ∃ f, rowLoc d ↦{fullShare} f) else iprop(emp)

/-- What it hands back: the same with the row in its buffer. -/
def handedBack (d : Dev nD) (c : ℕ) : sProp 𝕄 :=
  if c = 0 then iprop((pLoc d ↦{fullShare} m (pLoc d)) ∗ (flatLoc d ↦{fullShare} W1 m d flat')
    ∗ rowLoc d ↦{fullShare} (rowOf (pid m d).toNat (W1 m d flat') : Buf (Elt F) (rowLoc d))) else iprop(emp)

instance handed_storable (d : Dev nD) (c : ℕ) : BI.Storable (upEmb : UEmb _ 𝕄) (handed m d c) := by
  unfold handed; split <;> infer_instance
instance handedBack_storable (d : Dev nD) (c : ℕ) : BI.Storable (upEmb : UEmb _ 𝕄) (handedBack m d c) := by
  unfold handedBack; split <;> infer_instance

/-- The call's payloads; a scalar-subcore call has no tasks. -/
def P : (K (F := F)).Pay (nD := nD) (Val := Elt F) (Name := ℕ) (U := UU) where
  st := fun _ d c => handed m d c.val
  dn := fun _ d c => handedBack m d c.val
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Payloads

end Cert.Proof.Embed

end
-- ==== Proof.Lookup.lean ====
/-
  The SparseCore kernel: SparseCore 0's sequencer copies the identifier into its scalar memory, reads it, and copies the
  row of the flat table it names into the row's buffer; SparseCore 1's does nothing.
-/
module

public import proofs.«01_k».proof.Proof.Setup

@[expose] public section

noncomputable section

namespace Cert.Proof.Embed

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The sequencer's own storage -/

section Storage

variable (d : Dev nD) (c : Fin τ.nSC)

/-- The semaphore of the first copy, -/
abbrev cell0 : GSem nD τ sig := (S d c, .dma cc0_scoped0.sem)
/-- of the second, -/
abbrev cell1 : GSem nD τ sig := (S d c, .dma cc0_scoped1.sem)
/-- and the scalar memory the identifier is copied to. -/
abbrev wordRef : DevRef τ sig := Proc.devRef (.scScalar c) (cc0_scratch0 : Ref sig .scScalar)

/-- A sequencer's semaphores: the two copies' and the rest. -/
theorem sems_split :
    (ownSems0 (S d c) : sProp 𝕄) = iprop(semVal (cell0 d c) 0 ∗ semVal (cell1 d c) 0
      ∗ bigSep (((ownCells (S d c)).erase (cell0 d c)).erase (cell1 d c)) fun g => semVal g 0) := by
  unfold SparseCore.Cfg.ownSems0
  rw [SparseCore.bigSep_erase' ((mem_ownCells (g := cell0 d c)).mpr ⟨rfl, by
      show (SemLoc.dma cc0_scoped0.sem : SemLoc sig).isScoped .scScalar = true; decide⟩),
    SparseCore.bigSep_erase' (i := cell1 d c) (Finset.mem_erase.mpr ⟨fun h => absurd (congrArg Prod.snd h)
      (show ¬ (SemLoc.dma cc0_scoped1.sem : SemLoc sig) = SemLoc.dma cc0_scoped0.sem by decide),
      (mem_ownCells (g := cell1 d c)).mpr ⟨rfl, by
        show (SemLoc.dma cc0_scoped1.sem : SemLoc sig).isScoped .scScalar = true; decide⟩⟩)]

/-- Its buffers: the word of scalar memory and the rest. -/
theorem bufs_split :
    (ownBufs (S d c) : sProp 𝕄) = iprop((∃ f, (S d c).loc cc0_scratch0 ↦{fullShare} f)
      ∗ bigSep ((ownRefs (.scScalar c)).erase (wordRef c)) fun b => iprop(∃ f, ((d, b) : Loc nD τ sig) ↦{fullShare} f)) := by
  unfold SparseCore.Cfg.ownBufs
  exact SparseCore.bigSep_erase' (i := wordRef c) (mem_ownRefs_of_owner rfl)

/-- The identifier's buffer as the sequencer addresses it is the device's, -/
theorem pts_id (f : Buf (Elt F) (pLoc d)) :
    ((Memref.whole main_arg1_scs : Memref sig Kind.scScalar Space.hbm S1 EltTy.i32).view.loc (S d c) ↦{fullShare} f : sProp 𝕄)
      = pLoc d ↦{fullShare} f := by
  simp only [Memref.view_whole, View.set_whole]
/-- so is the flat table's, -/
theorem pts_flat (f : Buf (Elt F) (flatLoc d)) :
    ((Memref.whole main_v0_scs : Memref sig Kind.scScalar Space.hbm S11520 EltTy.f32).view.loc (S d c) ↦{fullShare} f : sProp 𝕄)
      = flatLoc d ↦{fullShare} f := by
  simp only [Memref.view_whole, View.set_whole]
/-- so is the row's, -/
theorem pts_row (f : Buf (Elt F) (rowLoc d)) :
    ((Memref.whole main_v1_scs : Memref sig Kind.scScalar Space.hbm S128 EltTy.f32).view.loc (S d c) ↦{fullShare} f : sProp 𝕄)
      = rowLoc d ↦{fullShare} f := by
  simp only [Memref.view_whole, View.set_whole]
/-- and the word of scalar memory as the kernel addresses it is the sequencer's. -/
theorem pts_word (f : Buf (Elt F) ((S d c).loc cc0_scratch0)) :
    ((Memref.whole cc0_scratch0 : Memref sig Kind.scScalar Space.smem S1 EltTy.i32).view.loc (S d c) ↦{fullShare} f : sProp 𝕄)
      = (S d c).loc cc0_scratch0 ↦{fullShare} f := by
  simp only [Memref.view_whole, View.set_whole]

end Storage

/-! ## The two sequencers -/

section Body

variable (d : Dev nD)

/-- The grid's coordinates of SparseCore `c`. -/
def coordsS (c : Fin (grid0.bound 0)) : grid0.Coords := fun | 0 => c | ⟨_ + 1, h⟩ => absurd h (Nat.not_lt.2 (Nat.le_add_left _ _))

/-- SparseCore 0's sequencer, -/
abbrev seq0 (h : 0 < grid0.bound 0) : Thread nD τ := S d ((⟨0, h⟩ : Fin (grid0.bound 0)).castLE Facts₀.hcore0)
/-- and SparseCore 1's. -/
abbrev seq1 (h : 1 < grid0.bound 0) : Thread nD τ := S d ((⟨1, h⟩ : Fin (grid0.bound 0)).castLE Facts₀.hcore0)

/-- The kernel as SparseCore `c` runs it. -/
abbrev lookup (c : Fin (grid0.bound 0)) :=
  cc0__sc_lookup_body (F := F) (coordsS c) (Memref.whole main_arg1_scs) (Memref.isWhole_whole _) (Memref.whole main_v0_scs)
    (Memref.isWhole_whole _) (Memref.whole main_v1_scs) (Memref.isWhole_whole _) (Memref.whole cc0_scratch0) (Memref.isWhole_whole _)
    cc0_scoped0 cc0_scoped1

/-- The word `128 v` does not wrap for an identifier below 90. -/
theorem off_of_lt (v : BitVec 32) (h : v.toNat < 90) : (v * 128#32).toNat = v.toNat * 128 := by
  rw [BitVec.toNat_mul]
  show (v.toNat * 128) % 2 ^ 32 = _
  omega

/-- An identifier below 90 keeps the row inside the flat table. -/
theorem chk_of_lt (i : grid0.Coords) (v : BitVec 32) (h : v.toNat < 90) : k0_chk1 i v := by
  intro _ a
  match a with
  | ⟨0, _⟩ =>
    show (v * 128#32).toNat + 128 ≤ 11520
    rw [off_of_lt v h]
    omega

/-- A one-element array has one index. -/
theorem idx_eq (i j : S1.Idx) : i = j := funext fun a => by
  match a with
  | ⟨0, _⟩ => exact Subsingleton.elim (α := Fin 1) _ _

/-- SparseCore 0's sequencer: from the identifier, the flat table and the row's buffer to the row in its buffer. -/
theorem body₀ (hm : InRange m) (h : 0 < grid0.bound 0) (O : CellTallies nD τ sig (HIx 1)) (W : Waits sig (HIx 1)) (hO : ∀ g, O g none = 0) :
    iprop(levAts (K (F := F)).L (K (F := F)).lev ∗ emp ∗ handed m d 0
        ∗ scopedBufs (seq0 d h) ∗ scopedSems0 (seq0 d h) ∗ owes (seq0 d h) O W)
      ⊢ wp frame (wpE (defs₀ (F := F)) 𝒱₀ (seq0 d h) none) Set.univ (lookup (F := F) ⟨0, h⟩)
          fun _ => iprop(handedBack m d 0 ∗ scopedBufs (seq0 d h) ∗ scopedSems0 (seq0 d h)
            ∗ ∃ W', ⌜∀ p ∈ W', p ∈ W ∨ p.2 = none⌝ ∗ owes (seq0 d h) O W') := by
  have k0_h1 : k0_cond1 (coordsS ⟨0, h⟩) = 1#1 := by decide +revert
  unfold lookup
  simp only [cc0__sc_lookup_body_eq_skeleton]; unfold cc0__sc_lookup_body_skel
  unfold handed
  rw [if_pos rfl]
  iintro ⟨#Hlv, -, ⟨Hp, Hf, %fr, Hr⟩, Hsb, Hss, HO⟩
  ihave Hss' := (SparseCore.Cfg.scopedSems0_S_elim (Val := Elt F) d _) $$ Hss
  icases Hss' with ⟨Hown, Hsubs⟩
  ihave Hown' := (Entails.of_eq (sems_split (F := F) d _)) $$ Hown
  icases Hown' with ⟨Hs0, Hs1, Hrest⟩
  ihave Hsb' := (SparseCore.Cfg.scopedBufs_S_elim (K := K (F := F)) facts d _) $$ Hsb
  icases Hsb' with ⟨Hbuf, Hbsubs⟩
  ihave Hbuf' := (Entails.of_eq (bufs_split (F := F) d _)) $$ Hbuf
  icases Hbuf' with ⟨⟨%fw, Hw⟩, Hbrest⟩
  ihave Hmw := ((K (F := F)).mayWaits_none (thr := seq0 d h) hO) $$ Hlv
  ihave Hp' := (Entails.of_eq (pts_id (F := F) d ((⟨0, h⟩ : Fin (grid0.bound 0)).castLE Facts₀.hcore0) _).symm) $$ Hp
  ihave Hf' := (Entails.of_eq (pts_flat (F := F) d ((⟨0, h⟩ : Fin (grid0.bound 0)).castLE Facts₀.hcore0) _).symm) $$ Hf
  ihave Hr' := (Entails.of_eq (pts_row (F := F) d ((⟨0, h⟩ : Fin (grid0.bound 0)).castLE Facts₀.hcore0) _).symm) $$ Hr
  ihave Hw' := (Entails.of_eq (pts_word (F := F) d ((⟨0, h⟩ : Fin (grid0.bound 0)).castLE Facts₀.hcore0) _).symm) $$ Hw
  sl_exec
  -- the word read is the identifier
  have hr : body₀.sl.r m d h fw = pid m d := by
    unfold body₀.sl.r body₀.sl.dma0
    refine (congrArg (fun g => View.readAt (Elt F) (Memref.whole cc0_scratch0).view
      (Rect.unit (s := S1) ![0] S1.size inb_S1_S1_0).toLoadRect g _) (View.write_whole_univ cc0_scratch0 fw _)).trans ?_
    exact congrArg (m (pLoc d)) (idx_eq _ _)
  sl_exec (disch := exact chk_of_lt _ _ (hr ▸ hm d))
  -- what landed in the row's buffer is the row named
  have hrow : View.write (Elt F) (Memref.whole main_v1_scs).view fr (body₀.sl.dma0_1 m d hm h k0_h1 fw hr) Finset.univ
      = rowOf (pid m d).toNat (W1 m d flat') := by
    unfold body₀.sl.dma0_1
    refine (View.write_whole_univ main_v1_scs fr _).trans ?_
    refine funext fun j => congrArg (W1 m d flat') (funext fun a => ?_)
    match a with
    | ⟨0, _⟩ =>
      refine Fin.ext ?_
      show k0_off1 (body₀.sl.r m d h fw) 0 + 1 * (j 0).val = ((pid m d).toNat * 128 + (j 0).val) % 11520
      rw [hr, show k0_off1 (pid m d) 0 = (pid m d).toNat * 128 from off_of_lt _ (hm d)]
      have := hm d
      have : (j 0).val < 128 := (j 0).isLt
      omega
  rw [hrow]
  sl_step
  isplitl [Hp' Hf' Hr']
  · unfold handedBack
    rw [if_pos rfl]
    isplitl [Hp']; · iapply (Entails.of_eq (pts_id (F := F) d _ _)); iexact Hp'
    isplitl [Hf']; · iapply (Entails.of_eq (pts_flat (F := F) d _ _)); iexact Hf'
    iapply (Entails.of_eq (pts_row (F := F) d _ _)); iexact Hr'
  isplitl [Hw' Hbrest Hbsubs]
  · iapply (SparseCore.Cfg.scopedBufs_S_intro (K := K (F := F)) facts d _)
    isplitl [Hw' Hbrest]
    · rw [bufs_split]
      isplitl [Hw']
      · iexists _; iapply (Entails.of_eq (pts_word (F := F) d _ _)); iexact Hw'
      · iexact Hbrest
    · iexact Hbsubs
  isplitl [Hs0 Hs1 Hrest Hsubs]
  · iapply (SparseCore.Cfg.scopedSems0_S_intro (Val := Elt F) d _)
    isplitl [Hs0 Hs1 Hrest]
    · rw [sems_split]
      isplitl [Hs0]; · iexact Hs0
      isplitl [Hs1]; · iexact Hs1
      iexact Hrest
    · iexact Hsubs
  iexists insert (SemLoc.dma cc0_scoped1.sem, (default : HIx 1)) (insert (SemLoc.dma cc0_scoped0.sem, (default : HIx 1)) W); isplitr
  · ipureintro
    exact fun p hp => (Finset.mem_insert.mp hp).elim (fun e => .inr (by rw [e]; rfl)) fun hp =>
      (Finset.mem_insert.mp hp).elim (fun e => .inr (by rw [e]; rfl)) .inl
  · iexact HO

/-- SparseCore 1's sequencer: the kernel's branch is not taken. -/
theorem body₁ (h : 1 < grid0.bound 0) (O : CellTallies nD τ sig (HIx 1)) (W : Waits sig (HIx 1)) :
    iprop(levAts (K (F := F)).L (K (F := F)).lev ∗ emp ∗ handed m d 1
        ∗ scopedBufs (seq1 d h) ∗ scopedSems0 (seq1 d h) ∗ owes (seq1 d h) O W)
      ⊢ wp frame (wpE (defs₀ (F := F)) 𝒱₀ (seq1 d h) none) Set.univ (lookup (F := F) ⟨1, h⟩)
          fun _ => iprop(handedBack m d 1 ∗ scopedBufs (seq1 d h) ∗ scopedSems0 (seq1 d h)
            ∗ ∃ W', ⌜∀ p ∈ W', p ∈ W ∨ p.2 = none⌝ ∗ owes (seq1 d h) O W') := by
  have k0_h1 : ¬ k0_cond1 (coordsS ⟨1, h⟩) = 1#1 := by decide +revert
  unfold lookup
  simp only [cc0__sc_lookup_body_eq_skeleton]; unfold cc0__sc_lookup_body_skel
  unfold handed handedBack
  rw [if_neg Nat.one_ne_zero, if_neg Nat.one_ne_zero]
  iintro ⟨-, -, -, Hbufs, Hsems, HO⟩
  sl_exec
  sl_step
  isplitr; · iempintro
  isplitl [Hbufs]; · iexact Hbufs
  isplitl [Hsems]; · iexact Hsems
  iexists W
  isplitr
  · ipureintro; exact fun _ => .inl
  · iexact HO

end Body

/-! ## What the launch theorem asks of the call -/

/-- The body table's entry for the sequencers runs the kernel at the core's own coordinates. -/
theorem defs₀_scalar (c : Fin τ.nSC) :
    defs₀ (F := F) (.scScalar c) 0 () = SparseCore.onCore Facts₀.hcore0 (fun c => lookup (F := F) c) ⟨⟩ c := rfl

/-- Waits at the kernel's own index are among those the launch admits. -/
theorem widen {thr : Thread nD τ} {O : CellTallies nD τ sig (HIx 1)} {W : Waits sig (HIx 1)} {q : Fin 1} {A B C : sProp 𝕄} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨Ha, Hb, Hc, %W₁, %h₁, Ho⟩
  iframe Ha Hb Hc
  iexists W₁
  isplitr
  · ipureintro; intro p hp; rcases h₁ p hp with h | h
    · exact .inl h
    · exact .inr (.inl h)
  · iexact Ho

/-- Each sequencer turns what the call hands it into what the call takes back. -/
theorem scalarObl (hm : InRange m) : (K (F := F)).ScalarObl (D (F := F)) 𝒱 (P m) v₀ 0 := by
  intro d c O W hO _ _
  rw [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]
  simp only [SparseCore.onCore, hc, ↓reduceDIte]
  show iprop(_ ∗ _ ∗ handed m d c.val ∗ _) ⊢ wp _ _ _ _ (fun _ => iprop(handedBack m d c.val ∗ _))
  match c with
  | ⟨0, h⟩ => exact (body₀ m d hm h O W hO).trans (wp_mono frame _ _ fun _ => widen)
  | ⟨1, h⟩ => exact (body₁ m d h O W).trans (wp_mono frame _ _ fun _ => widen)

end Cert.Proof.Embed

end
-- ==== Proof.Region.lean ====
/-
  The TensorCore's part: four blocks of 25000 rows of `x`, to each row of which the row looked up is added. What the
  pipeline stages and what its body leaves, and the pipeline as a region of the main program.
-/
module

public import proofs.«01_k».proof.Proof.Setup

@[expose] public section

-- deciding that one store of a whole block covers the block walks along its 25000 rows
set_option maxRecDepth 16384

noncomputable section

namespace Cert.Proof.Embed

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation arrRef)

variable {F : FTy → Type} [FloatOps F]

local notation "𝕄" => MT nD τ sig (HIx 1) (Elt F) ℕ UU ℕ

/-! ## One block -/

/-- The entry of a one-row matrix above or below entry `y` of a block. -/
def under (y : S25000x128.Idx) : S1x128.Idx :=
  fun a => match a with | ⟨0, _⟩ => ⟨0, Nat.one_pos⟩ | ⟨1, _⟩ => ⟨(y 1).val, (y 1).isLt⟩

/-- A block with a row added to each of its rows. -/
def sumBlock (x : Vec F S25000x128 .f32) (r : Vec F S1x128 .f32) : Vec F S25000x128 .f32 :=
  fun y => FloatOps.addf (x y) (r (under y))

/-- All of a block, -/
abbrev allX : Rect S25000x128 := Rect.unit (s := S25000x128) ![0, 0] S25000x128.size Facts₀.inb_S25000x128_S25000x128_0_0
/-- and all of the row. -/
abbrev allR : Rect S1x128 := Rect.unit (s := S1x128) ![0, 0] S1x128.size Facts₀.inb_S1x128_S1x128_0_0

/-- The one store of the body reaches every entry of the block. -/
theorem store_covers (v : Vec F S25000x128 .f32) (y : S25000x128.Idx) :
    ∃ pc ∈ ([⟨allX, v⟩] : List (View.Piece (Elt F) S25000x128 .f32)), y ∈ pc.1.set :=
  View.cover_of_tiled [⟨allX, v⟩] S25000x128.size (by rfl) y

/-- What the body stores is the row added to each row of the block. -/
theorem stored_eq (x : Vec F S25000x128 .f32) (r : Vec F S1x128 .f32) :
    View.canon [⟨allX, k1_pay1 (View.ld x allX) (View.ld r allR)⟩] = sumBlock x r := by
  funext y
  refine View.canon_apply_of_pieces (sumBlock x r) _ (fun pc hpc z => ?_) y (store_covers _ y)
  obtain rfl := List.mem_singleton.mp hpc
  have hrow : broadcastTo S25000x128 (View.ld r allR) Facts₀.broadcasts_S1x128_S25000x128 z = View.ld r allR (under z) :=
    broadcastTo_apply _ _ z (under z) fun a => match a with
      | ⟨0, _⟩ => by show 0 = (if (1 : Nat) = 1 then 0 else _); rw [if_pos rfl]
      | ⟨1, _⟩ => by show (z 1).val = (if (128 : Nat) = 1 then 0 else (z 1).val); rw [if_neg (by decide)]
  have hpay : k1_pay1 (View.ld x allX) (View.ld r allR)
      = addf (View.ld x allX) (broadcastTo S25000x128 (View.ld r allR) Facts₀.broadcasts_S1x128_S25000x128) := by
    unfold k1_pay1; rw [shapeCast_self]
  show k1_pay1 (View.ld x allX) (View.ld r allR) z = sumBlock x r (allX.emb z)
  rw [hpay]
  show FloatOps.addf (View.ld x allX z) (broadcastTo S25000x128 (View.ld r allR) Facts₀.broadcasts_S1x128_S25000x128 z)
    = FloatOps.addf (x (allX.idx z)) (r (under (allX.idx z)))
  rw [hrow]
  refine congrArg₂ _ rfl (congrArg r (funext fun a => Fin.ext ?_))
  match a with
  | ⟨0, _⟩ => rfl
  | ⟨1, _⟩ => rfl

set_option maxHeartbeats 1000000 in
/-- The body, on the block and the row in their staging buffers and anything in the result's, leaves the block with the
    row added to each row, and the other two as they were. -/
theorem add_body (c : Dev nD) (E : Set ℕ) (i : grid1.Coords)
    (bx : Memref sig .tc .vmem S25000x128 .f32) (hx : bx.IsWhole) (br : Memref sig .tc .vmem S1x128 .f32) (hr : br.IsWhole)
    (bo : Memref sig .tc .vmem S25000x128 .f32) (ho : bo.IsWhole)
    (x : Vec F S25000x128 .f32) (r : Vec F S1x128 .f32) (Q : PUnit → sProp 𝕄) :
    iprop((∃ d, owns (T c) bo fullShare d) ∗ owns (T c) bx fullShare x ∗ owns (T c) br fullShare r
        ∗ (iprop(owns (T c) bo fullShare (sumBlock x r) ∗ owns (T c) bx fullShare x ∗ owns (T c) br fullShare r) -∗ Q ⟨⟩))
      ⊢ wp frame (wpE (defs₀ (F := F)) 𝒱₀ (T c) none) E (cc1__tc_add_body i bx hx br hr bo ho) Q := by
  rw [cc1__tc_add_body_eq_skeleton]; unfold cc1__tc_add_body_skel
  unfold owns
  iintro ⟨⟨%d, %fo, -, Ho⟩, ⟨%fx, %ex, Hx⟩, ⟨%fr, %er, Hr⟩, Hk⟩
  subst ex er
  sl_exec
  sl_step
  iapply Hk
  isplitl [Ho]
  · iexists _; isplitr
    swap; · iexact Ho
    ipureintro
    exact (View.read_writes_eq_canon _ _ _ (store_covers _)).trans (stored_eq _ _)
  isplitl [Hx]
  · iexists fx; isplitr; · ipureintro; rfl
    iexact Hx
  iexists fr; isplitr; · ipureintro; rfl
  iexact Hr

/-! ## The pipeline -/

variable (m : (ℓ : Loc nD τ sig) → Buf (Elt F) ℓ)

/-- What window `w`'s array holds when the pipeline starts, -/
def entering (c : Dev nD) (w : Fin cfg1.W) : Buf (Elt F) ((cfg1.win w).arr.view.loc (T c : Thread nD τ)) :=
  W3 m c (Proc.devRef .tc (arrRef spec1 w))

/-- and the part of it that step `t` works on. -/
def staged (c : Dev nD) (w : Fin cfg1.W) (t : Fin cfg1.N) : ((cfg1.win w).xblock (cfg1.grid.coords t)).Idx → Elt F (cfg1.win w).elt :=
  ((cfg1.win w).blk t).view.read (Elt F) (entering m c w)

/-- The pairs a core may have waited at before the pipeline: those of level at most 8, as after the one SparseCore call. -/
def waited (c : Dev nD) : Set (SemLoc sig × HIx 1) := {p | (K (F := F)).lev (T c, p.1) p.2 ≤ 8}

/-- The pipeline's proof data: each step leaves the inputs' blocks in place and the sum in the result's; the core owes
    nothing meanwhile, and holds nothing besides. -/
def dat (c : Dev nD) : Dat τ (Elt F) (HIx 1) ℕ UU ℕ cfg1 c where
  A := entering m c
  after w t := match w with
    | ⟨0, _⟩ => staged m c 0 t
    | ⟨1, _⟩ => staged m c 1 t
    | ⟨2, _⟩ => sumBlock (staged m c 0 t) (staged m c 1 t)
  Φ _ := iprop(emp)
  q _ := fullShare
  owed _ := 0
  recorded _ := waited (F := F) c

theorem dat_A (c : Dev nD) (w : Fin cfg1.W) : (dat m c).A w = entering m c w := by dsimp only [dat]
theorem after_x (c : Dev nD) (t : Fin cfg1.N) : (dat m c).after 0 t = staged m c 0 t := by dsimp only [dat]
theorem after_row (c : Dev nD) (t : Fin cfg1.N) : (dat m c).after 1 t = staged m c 1 t := by dsimp only [dat]
theorem after_out (c : Dev nD) (t : Fin cfg1.N) : (dat m c).after 2 t = sumBlock (staged m c 0 t) (staged m c 1 t) := by
  dsimp only [dat]

/-- At every step the block of `x` is in its staging buffer, -/
theorem before_x (c : Dev nD) (t : Fin cfg1.N) (d) : (dat m c).before 0 t d = staged m c 0 t := by
  refine ((dat m c).before_in_eq_fetched 0 rfl (fun _ => rfl) (fun _ _ _ => rfl) (fun u => ?_) t d).trans ?_
  · rw [after_x]; unfold Dat.blockOf staged; rw [dat_A]
  · unfold Dat.fetched Dat.blockOf staged; rw [dat_A]; rfl
/-- and the row, though it is fetched at the first step only, in its own. -/
theorem before_row (c : Dev nD) (t : Fin cfg1.N) (d) : (dat m c).before 1 t d = staged m c 1 t := by
  refine ((dat m c).before_in_eq_fetched 1 rfl (fun _ => rfl) (fun _ _ _ => rfl) (fun u => ?_) t d).trans ?_
  · rw [after_row]; unfold Dat.blockOf staged; rw [dat_A]
  · unfold Dat.fetched Dat.blockOf staged; rw [dat_A]; rfl

/-- One step of the pipeline. -/
theorem step (c : Dev nD) (t : Fin cfg1.N) :
    iprop((dat m c).Φ t.castSucc ∗ (dat m c).owesAt none t.castSucc
        ∗ (∃ d, owns (T c) (st1_0 t) fullShare ((dat m c).before 0 t d))
        ∗ (∃ d, owns (T c) (st1_1 t) fullShare ((dat m c).before 1 t d))
        ∗ (∃ d, owns (T c) (st1_2 t) fullShare ((dat m c).before 2 t d)))
      ⊢ wp frame (wpE (defs₀ (F := F)) 𝒱₀ (T c) none) Set.univ (bodyAt1 t) fun _ =>
        iprop((dat m c).Φ t.succ ∗ (dat m c).owesAt none t.succ
          ∗ owns (T c) (st1_0 t) fullShare ((dat m c).after 0 t)
          ∗ owns (T c) (st1_1 t) fullShare ((dat m c).after 1 t)
          ∗ owns (T c) (st1_2 t) fullShare ((dat m c).after 2 t)) := by
  simp only [before_x, before_row, after_x, after_row, after_out]
  rw [show (dat m c).Φ t.succ = (dat m c).Φ t.castSucc from rfl,
    show (dat m c).owesAt none t.succ = (dat m c).owesAt none t.castSucc from rfl]
  iintro ⟨HI, HO, ⟨%d0, Hx⟩, ⟨%d1, Hr⟩, ⟨%d2, Ho⟩⟩
  iapply (add_body c Set.univ (grid1.coords t) _ _ _ _ _ _ (staged m c 0 t) (staged m c 1 t) _)
  isplitl [Ho]; · iexists _; iexact Ho
  isplitl [Hx]; · iexact Hx
  isplitl [Hr]; · iexact Hr
  iintro ⟨Ho, Hx, Hr⟩
  isplitl [HI]; · iexact HI
  isplitl [HO]; · iexact HO
  isplitl [Hx]; · iexact Hx
  isplitl [Hr] <;> iassumption

/-- The table of bodies has the addition where the pipeline looks it up. -/
theorem row_of_table (t : Fin cfg1.N) :
    defs₀ (F := F) .tc cfg1.body (cfg1.bodyArgs t (cfg1.slots t)) = bodyAt1 t := by
  rfl

/-- So every step of the pipeline keeps to the proof data. -/
theorem steps (c : Dev nD) : BodyObligation (dat (F := F) m c) (defs₀ (F := F)) 𝒱₀ none Set.univ := fun t => by
  rw [bigSep_W1, bigSep_W1, row_of_table]
  exact triple_restated (step m c t) rfl .rfl fun _ => .rfl

/-! ## The region -/

/-- No pipeline of the program prefetches a table. -/
abbrev adm : (p : Fin 1) → (pcfgs (F := F) p).Adm := fun p => (cfgs p).toPCfg_adm
/-- The proof data of all the pipelines: the one. -/
def pdats : (p : Fin 1) → (c : Dev nD) → Dat τ (Elt F) (HIx 1) ℕ UU ℕ (Pipeline.pin (pcfgs (F := F)) adm p) c
  | 0 => dat m

/-- What is in the result's buffer when the pipeline is through. -/
def sumOut (c : Dev nD) : Buf (Elt F) (outLoc c) := (dat m c).arrAt 2 cfg1.N

/-- The core owes nothing and has waited at nothing above level 8. -/
def idle (c : Dev nD) : sProp 𝕄 :=
  iprop(∃ W, ⌜(K (F := F)).WBelow (T c) W 8⌝ ∗ owes (T c) (0 : CellTallies nD τ sig (HIx 1)) W)

theorem kit {F : FTy → Type} : Pipeline.PLaunchFacts (nD := nD) (τ := τ) (pcfgs (F := F)) 0 := launch1.toP

/-- The pipeline's arrays are the three buffers whole. -/
theorem arrays_three (c : Dev nD) (G : (w : Fin cfg1.W) → Buf (Elt F) ((cfg1.win w).arr.view.loc (T c : Thread nD τ))) :
    ((pdats m 0 c).arrays G : sProp 𝕄)
      = iprop((xLoc c ↦{fullShare} G 0) ∗ (vecLoc c ↦{fullShare} G 1) ∗ (outLoc c ↦{fullShare} G 2)) := by
  rw [Pipeline.arrays_eq (Pipeline.pin (pcfgs (F := F)) adm) (pdats m) 0 c ((kit (F := F)).arr_whole) ((pdats m 0 c).share_full fun _ => rfl) G]
  exact bigSep_W1 _

/-- The pipeline waits at its staging semaphores only, with the index of level 0. -/
theorem bound_le (c : Dev nD) (t : Fin (cfg1.N + 1)) (p) (hp : p ∈ (dat m c).bound none t) : (K (F := F)).lev (T c, p.1) p.2 ≤ 8 := by
  rcases hp with h | ⟨w, s, rfl⟩
  · exact h
  · exact Nat.zero_le 8

theorem idle_enter (c : Dev nD) (t : Fin (cfg1.N + 1)) : idle (F := F) c ⊢ (dat m c).owesAt none t := by
  unfold idle Dat.owesAt Pipeline.owesWithin
  iintro ⟨%W, %hW, HO⟩
  iexists W; isplitr
  · ipureintro; exact fun p hp => Or.inl (hW p hp)
  iexact HO

theorem idle_leave (c : Dev nD) (t : Fin (cfg1.N + 1)) : ((dat m c).owesAt none t : sProp 𝕄) ⊢ idle (F := F) c := by
  unfold idle Dat.owesAt Pipeline.owesWithin
  iintro ⟨%W, %hW, HO⟩
  iexists W; isplitr
  · ipureintro; exact fun p hp => bound_le m c t p (hW hp)
  iexact HO

/-- The region: entered with `x`, the row and the result's buffer, left with the same and the sum in the last. -/
def region : Pipeline.RegionSeg (pcfgs (F := F)) adm (pdats m) none defs₀ 𝒱₀ (K (F := F)).L (K (F := F)).lev 0 where
  win := (kit (F := F)).to₀.win
  block_pos := (kit (F := F)).block_pos
  stage_whole := (kit (F := F)).stage_whole
  K := PEmpty
  osem k := k.elim
  ho := Pipeline.OwnSemFacts.none _
  hbody c := (steps m c).loose
  hwaits := Pipeline.hwaits_of_owed_zero _ _ _ _ _ _ 0 fun _ _ => rfl
  pre c := iprop(idle c ∗ (xLoc c ↦{fullShare} W3 m c x') ∗ (vecLoc c ↦{fullShare} W3 m c vec') ∗ (outLoc c ↦{fullShare} W3 m c out'))
  post c := iprop(idle c ∗ (xLoc c ↦{fullShare} W3 m c x') ∗ (vecLoc c ↦{fullShare} W3 m c vec') ∗ (outLoc c ↦{fullShare} sumOut m c))
  X _ := iprop(emp)
  Y _ := iprop(emp)
  Z _ := iprop(emp)
  hentry c := by
    rw [arrays_three, Pipeline.prefHeld_of_none _ rfl]
    iintro ⟨⟨HO, Hx, Hr, Ho⟩, -, -⟩
    imodintro
    isplitl [Hx Hr Ho]
    · isplitl [Hx]; · iexact Hx
      isplitl [Hr]; · iexact Hr
      iexact Ho
    isplitr; · iempintro
    isplitl [HO]; · iapply (idle_enter m c 0); iexact HO
    isplitr <;> iempintro
  hin c := by
    rw [show (pdats m 0 c).Φ 0 = iprop(emp) from rfl]
    iintro -; iempintro
  hout c := by
    rw [Pipeline.ownSems0_none, show (Pipeline.scopedRest (Pipeline.pin (pcfgs (F := F)) adm 0).spec c : sProp 𝕄) = iprop(emp) from scopedRest1_eq c]
    iintro -
    isplitr; · iempintro
    isplitr <;> iempintro
  hexit c := by
    rw [arrays_three]
    iintro ⟨⟨Hx, Hr, Ho⟩, HO, -, -⟩
    imodintro
    isplitl [HO]; · iapply (idle_leave m c (Fin.last _)); iexact HO
    isplitl [Hx]
    · rw [show W3 m c x' = (pdats m 0 c).arrAt 0 (Pipeline.pin (pcfgs (F := F)) adm 0).N from ((dat m c).arrAt_in 0 rfl _).symm]; iexact Hx
    isplitl [Hr]
    · rw [show W3 m c vec' = (pdats m 0 c).arrAt 1 (Pipeline.pin (pcfgs (F := F)) adm 0).N from ((dat m c).arrAt_in 1 rfl _).symm]; iexact Hr
    iexact Ho

theorem region_pre (c : Dev nD) : (region m).pre c
    = iprop(idle c ∗ (xLoc c ↦{fullShare} W3 m c x') ∗ (vecLoc c ↦{fullShare} W3 m c vec') ∗ (outLoc c ↦{fullShare} W3 m c out')) := rfl
theorem region_post (c : Dev nD) : (region m).post c
    = iprop(idle c ∗ (xLoc c ↦{fullShare} W3 m c x') ∗ (vecLoc c ↦{fullShare} W3 m c vec') ∗ (outLoc c ↦{fullShare} sumOut m c)) := rfl

end Cert.Proof.Embed

end
-- ==== Proof.Value.lean ====
/-
  The values in the program's buffers, entry by entry: the flat table, the row, the row as a matrix, and the result, which
  is `x` plus the table's row named by the identifier.
-/
module

public import proofs.«01_k».proof.Proof.Region

@[expose] public section

noncomputable section

namespace Cert.Proof.Embed

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.Sem
open Idealize.ShloMosaic.Pipeline (Dat Window arrRef)

variable {F : FTy → Type} [FloatOps F]

/-- Entry `(p, j)` of the table, each counted round past its end. -/
def tableAt (p j : ℕ) : S90x128.Idx := fun a => match a with
  | ⟨0, _⟩ => ⟨p % 90, Nat.mod_lt _ (by decide)⟩
  | ⟨1, _⟩ => ⟨j % 128, Nat.mod_lt _ (by decide)⟩

/-- The sum: to entry `(i, j)` of `x` is added entry `(p, j)` of the table. -/
def summed (x : S100000x128.Idx → Elt F .f32) (p : ℕ) (e : S90x128.Idx → Elt F .f32) : S100000x128.Idx → Elt F .f32 :=
  fun i => FloatOps.addf (x i) (e (tableAt p (i 1).val))

variable (m : (ℓ : Loc nD τ sig) → Buf (Elt F) ℓ)

/-! ## The buffers no step writes keep what they held -/

theorem W1_ne (d : Dev nD) {b : Ref sig .tc} (h : b ≠ main_v0) : W1 m d (Proc.devRef .tc b) = m (d, Proc.devRef .tc b) :=
  StableHlo.reshape_result_ne _ _ _ _ _ _ _ h
theorem W2_ne (d : Dev nD) {b : DevRef τ sig} (h : b ≠ row') : W2 m d b = W1 m d b := Function.update_of_ne h _ _
theorem W2_row (d : Dev nD) : W2 m d row' = rowOf (pid m d).toNat (W1 m d flat') := Function.update_self _ _ _
theorem W3_ne (d : Dev nD) {b : Ref sig .tc} (h : b ≠ main_v2) : W3 m d (Proc.devRef .tc b) = W2 m d (Proc.devRef .tc b) :=
  StableHlo.reshape_result_ne _ _ _ _ _ _ _ h

theorem W3_x (d : Dev nD) : W3 m d x' = m (xLoc d) := by
  rw [W3_ne m d (by decide), W2_ne m d (by decide), W1_ne m d (by decide)]
theorem W3_p (d : Dev nD) : W3 m d p' = m (pLoc d) := by
  rw [W3_ne m d (by decide), W2_ne m d (by decide), W1_ne m d (by decide)]
theorem W3_e (d : Dev nD) : W3 m d e' = m (eLoc d) := by
  rw [W3_ne m d (by decide), W2_ne m d (by decide), W1_ne m d (by decide)]

/-! ## The row -/

/-- The flat table is the table in row-major order. -/
theorem flat_at (d : Dev nD) (p j : ℕ) (hp : p < 90) (hj : j < 128) :
    W1 m d flat' (atFlat (p * 128 + j)) = m (eLoc d) (tableAt p j) := by
  have h : W1 m d flat' = shapeCast S11520 (m (eLoc d)) Facts₀.shapeCasts_S90x128_S11520 :=
    StableHlo.reshape_result main_arg2 main_v0 _ _ _ _ _
  rw [h]
  refine shapeCast_apply _ _ _ _ ?_
  refine (Shape.rowMajor_val_two (tableAt p j)).trans (Eq.trans ?_ (Shape.rowMajor_val_one (atFlat (p * 128 + j))).symm)
  show p % 90 * 128 + j % 128 = (p * 128 + j) % 11520
  rw [Nat.mod_eq_of_lt hp, Nat.mod_eq_of_lt hj, Nat.mod_eq_of_lt (by omega)]

/-- The place of an entry of a one-row matrix along its row. -/
def along (i : S1x128.Idx) : S128.Idx := fun a => match a with | ⟨0, _⟩ => ⟨(i 1).val, (i 1).isLt⟩

/-- The one-row matrix holds the table's row of the identifier. -/
theorem vec_at (hm : InRange m) (d : Dev nD) (i : S1x128.Idx) : W3 m d vec' i = m (eLoc d) (tableAt (pid m d).toNat (i 1).val) := by
  have hj : (i 1).val < 128 := (i 1).isLt
  have h0 : (i 0).val < 1 := (i 0).isLt
  have h : W3 m d vec' = shapeCast S1x128 (W2 m d row') Facts₀.shapeCasts_S128_S1x128 :=
    StableHlo.reshape_result main_v1 main_v2 _ _ _ _ _
  rw [h, W2_row]
  refine (shapeCast_apply _ _ _ (along i) ?_).trans ?_
  · refine (Shape.rowMajor_val_one (along i)).trans (Eq.trans ?_ (Shape.rowMajor_val_two i).symm)
    show (i 1).val = (i 0).val * 128 + (i 1).val
    omega
  · exact flat_at m d _ _ (hm d) hj

/-! ## The result -/

/-- No two steps write to the same block of the result. -/
theorem block_inj : ∀ t t' : Fin cfg1.N, win1_2.index t = win1_2.index t' → t = t' :=
  (by decide +kernel : ∀ t t' : Fin grid1.N, win1_2.index t = win1_2.index t' → t = t')

/-- Step `t` works on block `t`. -/
theorem block_num : ∀ t : Fin cfg1.N, win1_2.index t 0 = t.val ∧ win1_2.index t 1 = 0 :=
  (by decide +kernel : ∀ t : Fin grid1.N, win1_2.index t 0 = t.val ∧ win1_2.index t 1 = 0)

/-- The row's window is the whole row at every step. -/
theorem row_num : ∀ t : Fin cfg1.N, win1_1.index t 0 = 0 ∧ win1_1.index t 1 = 0 :=
  (by decide +kernel : ∀ t : Fin grid1.N, win1_1.index t 0 = 0 ∧ win1_1.index t 1 = 0)

/-- The step that writes entry `i` of the result, -/
def stepOf (i : S100000x128.Idx) : Fin cfg1.N :=
  ⟨(i 0).val / 25000, by
    have h : (i 0).val < 100000 := (i 0).isLt
    rw [show cfg1.N = 4 from N_1]; omega⟩
/-- and where in its block. -/
def within (i : S100000x128.Idx) : S25000x128.Idx := fun a => match a with
  | ⟨0, _⟩ => ⟨(i 0).val % 25000, Nat.mod_lt _ (by decide)⟩
  | ⟨1, _⟩ => ⟨(i 1).val, (i 1).isLt⟩

/-- An entry is where its step and its place in the block say, in the result -/
theorem place_out (i : S100000x128.Idx) : ((cfg1.win 2).blk (stepOf i)).view.emb (within i) = i := by
  obtain ⟨h0, h1⟩ := block_num (stepOf i)
  refine funext fun a => Fin.ext ?_
  refine (Window.rect_emb_val win1_2 (stepOf i) (within i) a).trans ?_
  match a with
  | ⟨0, _⟩ =>
    show win1_2.index (stepOf i) 0 * 25000 + (i 0).val % 25000 = (i 0).val
    rw [h0]; show (i 0).val / 25000 * 25000 + (i 0).val % 25000 = (i 0).val
    omega
  | ⟨1, _⟩ =>
    show win1_2.index (stepOf i) 1 * 128 + (i 1).val = (i 1).val
    rw [h1]; omega
/-- as in `x`. -/
theorem place_x (i : S100000x128.Idx) : ((cfg1.win 0).blk (stepOf i)).view.emb (within i) = i := place_out i

/-- What a step has of the row at an entry is the row there. -/
theorem place_row (t : Fin cfg1.N) (j : S1x128.Idx) : ((cfg1.win 1).blk t).view.emb j = j := by
  obtain ⟨h0, h1⟩ := row_num t
  refine funext fun a => Fin.ext ?_
  refine (Window.rect_emb_val win1_1 t j a).trans ?_
  match a with
  | ⟨0, _⟩ => show win1_1.index t 0 * 1 + (j 0).val = (j 0).val; rw [h0]; omega
  | ⟨1, _⟩ => show win1_1.index t 1 * 128 + (j 1).val = (j 1).val; rw [h1]; omega

/-- The result, entry by entry: `x` plus the table's row of the identifier. -/
theorem sumOut_eq (hm : InRange m) (d : Dev nD) :
    sumOut m d = summed (m (xLoc d)) (pid m d).toNat (m (eLoc d)) := by
  funext i
  have hd : ∀ t t' : Fin cfg1.N, (cfg1.win 2).flush t = true → (cfg1.win 2).flush t' = true → t ≠ t' →
      Disjoint ((cfg1.win 2).blk t).view.set ((cfg1.win 2).blk t').view.set :=
    fun t t' _ _ hne => (cfg1.win 2).disjoint_blk fun h => hne (block_inj t t' h)
  have hf : sumOut m d i = (dat m d).flushed 2 (stepOf i) (within i) := by
    have h := (dat m d).arrAt_emb_eq_flushed 2 hd (stepOf i) (flush1_2 _) (within i)
    rw [place_out] at h
    exact h
  have hs : (dat m d).flushed 2 (stepOf i) (within i)
      = sumBlock (staged m d 0 (stepOf i)) (staged m d 1 (stepOf i)) (within i) := by
    show (cfg1.win 2).cut (grid1.coords (stepOf i)) ((dat m d).after 2 (stepOf i)) (within i) = _
    rw [after_out]; rfl
  have hx : staged m d 0 (stepOf i) (within i) = m (xLoc d) i := by
    show W3 m d x' (((cfg1.win 0).blk (stepOf i)).view.emb (within i)) = _
    rw [place_x, W3_x]
  have hr : staged m d 1 (stepOf i) (under (within i)) = m (eLoc d) (tableAt (pid m d).toNat (i 1).val) := by
    show W3 m d vec' (((cfg1.win 1).blk (stepOf i)).view.emb (under (within i))) = _
    rw [place_row, vec_at m hm]; rfl
  rw [hf, hs]
  show FloatOps.addf (staged m d 0 (stepOf i) (within i)) (staged m d 1 (stepOf i) (under (within i))) = _
  rw [hx, hr]; rfl

end Cert.Proof.Embed

end
-- ==== Proof.Launch.lean ====
/-
  The whole program: the table laid out flat, the lookup on the SparseCore, the row as a matrix, the addition on the
  TensorCore; and its run, from any memory whose identifiers name rows of the table.
-/
module

public import proofs.«01_k».proof.Proof.Lookup
public import proofs.«01_k».proof.Proof.Value

@[expose] public section

noncomputable section

namespace Cert.Proof.Embed

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the launch starts from -/

/-- The pipeline's configuration, and that its staging cells are different ones. -/
abbrev pipes : (p : Fin 1) → Pipeline.Cfg sig Λ₀ := Pipeline.pin (pcfgs (F := F)) adm
theorem pipes_inj : Function.Injective (Pipeline.cellOf (nD := nD) (τ := τ) (pipes (F := F))) := (kit (F := F)).cellOf_inj adm

/-- The rounds of the handshakes and of the staging cells, none begun. -/
def u₀ : UU := (initOf (K (F := F)).hsCells (K (F := F)).hsToks,
  (initOf (Pipeline.cells (pipes (F := F)) pipes_inj) (Pipeline.launchToks (pipes (F := F)) pipes_inj), 1))

/-- What device `d`'s TensorCore is dealt of it: its staging cells' rounds and duties. -/
def dealt (d : Dev nD) : sProp 𝕄 :=
  iprop((bigSep Finset.univ fun p : Fin 1 => Pipeline.cellsGhost (pipes (F := F)) EP p d)
    ∗ bigSep Finset.univ fun p : Fin 1 => Pipeline.toksInit (pipes (F := F)) EP p d)

theorem hu₀ : (ownU (u₀ (F := F)) : sProp 𝕄)
    ⊢ |={Set.univ}=> iprop(BI.own (EH (initOf (K (F := F)).hsCells (K (F := F)).hsToks)) ∗ (bigSep Finset.univ dealt)
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) := by
    unfold P
    exact (bigSep_congr fun _ _ => bigSep_emp_const _).trans (bigSep_emp_const _)
  have hd : (bigSep Finset.univ dealt : sProp 𝕄)
      = iprop((bigSep Finset.univ fun d : Dev nD => bigSep Finset.univ fun p : Fin 1 => Pipeline.cellsGhost (pipes (F := F)) EP p d)
        ∗ bigSep Finset.univ fun d : Dev nD => bigSep Finset.univ fun p : Fin 1 => Pipeline.toksInit (pipes (F := F)) EP p d) := by
    unfold dealt; exact bigSep_sep' _ _ _
  rw [hx, hd]
  unfold u₀
  iintro Hu
  ihave Hs := (ownU_pair _ _) $$ Hu
  icases Hs with ⟨HH, HR⟩
  ihave Hp := (own_pair_emb (F := embR) _ _) $$ HR
  icases Hp with ⟨HP, -⟩
  imod (Pipeline.fund_ghost (pipes (F := F)) EP pipes_inj) $$ HP with ⟨Hg, Ht⟩
  imodintro
  isplitl [HH]; · iexact HH
  isplitl [Hg Ht]
  · isplitl [Hg] <;> iassumption
  iempintro

/-! ## The buffers -/

/-- The program's seven arrays one by one, -/
theorem held_seven (d : Dev nD) (W : Valuation τ sig (Elt F)) :
    (held (T d) S7 W : sProp 𝕄) = iprop((xLoc d ↦{fullShare} W x') ∗ (pLoc d ↦{fullShare} W p') ∗ (eLoc d ↦{fullShare} W e')
      ∗ (flatLoc d ↦{fullShare} W flat') ∗ (rowLoc d ↦{fullShare} W row') ∗ (vecLoc d ↦{fullShare} W vec') ∗ outLoc d ↦{fullShare} W out') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- which are what the TensorCore starts with. -/
theorem launched (d : Dev nD) : (unscopedBufs d (fun b => m ((SparseCore.T d).loc b)) : sProp 𝕄) = held (T d) S7 (W0 m d) := by
  rw [held_seven]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The lookup is handed the identifier, the flat table and the row's buffer, all to SparseCore 0, -/
theorem handed_sum (d : Dev nD) : (bigSep Finset.univ fun c : Fin ((K (F := F)).nCore 0) => (P m).st 0 d c)
    = iprop(((pLoc d ↦{fullShare} m (pLoc d)) ∗ (flatLoc d ↦{fullShare} W1 m d flat') ∗ ∃ f, rowLoc d ↦{fullShare} f) ∗ emp) := by
  show (bigSep (Finset.univ : Finset (Fin 2)) fun c => handed m d c.val) = _
  rw [show (Finset.univ : Finset (Fin 2)) = {0, 1} by decide, SparseCore.bigSep_insert' (by decide), bigSep_singleton]
  rfl
/-- and hands back the same with the row in its buffer. -/
theorem handedBack_sum (d : Dev nD) : (bigSep Finset.univ fun c : Fin ((K (F := F)).nCore 0) => (P m).dn 0 d c)
    = iprop(((pLoc d ↦{fullShare} m (pLoc d)) ∗ (flatLoc d ↦{fullShare} W1 m d flat')
      ∗ rowLoc d ↦{fullShare} (rowOf (pid m d).toNat (W1 m d flat') : Buf (Elt F) (rowLoc d))) ∗ emp) := by
  show (bigSep (Finset.univ : Finset (Fin 2)) fun c => handedBack m d c.val) = _
  rw [show (Finset.univ : Finset (Fin 2)) = {0, 1} by decide, SparseCore.bigSep_insert' (by decide), bigSep_singleton]
  rfl

/-! ## The addition as the main program calls it -/

theorem add_call [∀ e, Nonempty (Elt F e)] (d : Dev nD) (Q : PUnit → sProp 𝕄) :
    iprop((iprop(boundary (T d) ∗ (region m).post d) -∗ Q ⟨⟩) ∗ boundary (T d) ∗ (region m).pre d
        ∗ levAts (K (F := F)).L (K (F := F)).lev ∗ dealt d)
      ⊢ wp frame (wpE ((K (F := F)).defs (D (F := F))) 𝒱 (T d) none) Set.univ
          (Prog.lift (.customCall (SparseCore.inner (Pipeline.entry 0)) ())) Q := by
  have hlift := (K (F := F)).wp_liftProg (D (F := F)) 𝒱 (T d) Set.univ none
    (.op (.customCall (Pipeline.entry 0) ()) .ret : Prog (TpuEff nD τ sig (Elt F) (ΛP (F := F)) .tc) PUnit) Q
  have hreg := Pipeline.RegionSeg.wp (pcfgs (F := F)) adm (pdats m) none pipes_inj EP defs₀ 𝒱₀ _ _ (region m) d none
    (fun _ h => nomatch h) .ret Q
  unfold dealt
  rw [show (Finset.univ : Finset (Fin 1)) = {0} by decide, bigSep_singleton, bigSep_singleton]
  iintro ⟨Hk, Hb, Hpre, Hlev, Hg, Ht⟩
  iapply hlift
  iapply hreg
  isplitl [Hk]
  · iintro Hpost
    rw [wp_ret]; imodintro
    iapply Hk; iexact Hpost
  isplitl [Hb]; · iexact Hb
  isplitl [Hpre]; · iexact Hpre
  isplitl [Hlev]; · iexact Hlev
  isplitl [Hg] <;> iassumption

/-! ## The main program -/

theorem opFlat_bufs : (opFlat (F := F)).bufs ⊆ S7 := show ({e', flat'} : Finset (DevRef τ sig)) ⊆ S7 by decide
theorem opVec_bufs : (opVec (F := F)).bufs ⊆ S7 := show ({row', vec'} : Finset (DevRef τ sig)) ⊆ S7 by decide

/-- What is left at the end for the claim: the arguments as launched and the sum in the result's buffer. -/
def left (d : Dev nD) : sProp 𝕄 :=
  iprop((xLoc d ↦{fullShare} m (xLoc d)) ∗ (pLoc d ↦{fullShare} m (pLoc d)) ∗ (eLoc d ↦{fullShare} m (eLoc d))
    ∗ outLoc d ↦{fullShare} sumOut m d)

/-- Before the lookup and after it: only the row's buffer differs. -/
theorem held_W2 (d : Dev nD) : (held (T d) S7 (W2 m d) : sProp 𝕄) = iprop((xLoc d ↦{fullShare} W1 m d x') ∗ (pLoc d ↦{fullShare} m (pLoc d))
      ∗ (eLoc d ↦{fullShare} W1 m d e') ∗ (flatLoc d ↦{fullShare} W1 m d flat')
      ∗ (rowLoc d ↦{fullShare} (rowOf (pid m d).toNat (W1 m d flat') : Buf (Elt F) (rowLoc d)))
      ∗ (vecLoc d ↦{fullShare} W1 m d vec') ∗ outLoc d ↦{fullShare} W1 m d out') := by
  rw [held_seven, W2_ne m d (b := x') (by decide), W2_ne m d (b := p') (by decide), W2_ne m d (b := e') (by decide),
    W2_ne m d (b := flat') (by decide), W2_ne m d (b := vec') (by decide), W2_ne m d (b := out') (by decide), W2_row,
    show W1 m d p' = m (pLoc d) from W1_ne m d (by decide)]

/-- After the one SparseCore call the TensorCore owes nothing and has waited at nothing above level 8. -/
theorem idle_eq (d : Dev nD) : iprop(∃ W, ⌜(K (F := F)).WBelow (T d) W 8⌝ ∗ owes (T d) ((K (F := F)).Otc d 1) W) = idle (F := F) d := by
  unfold idle; rw [(K (F := F)).Otc_end d le_rfl]

set_option maxHeartbeats 1000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [launched]
  simp only [main, wp_bind, wp_pure]
  iintro ⟨#Hctx, Hst, ⟨Hb, Hbufs, Hsems, -⟩, Hdealt⟩
  -- the table laid out flat
  iapply (wp_hlo_within 𝒱 (SparseCore.T d) none Set.univ (op := opFlat) (S := S7) opFlat_bufs (V := W0 m d)) $$ [Hb Hbufs]
  · isplitl [Hb] <;> iassumption
  iintro ⟨Hb, Hbufs⟩
  rw [wp_ret]; imodintro
  ihave Hs := (show held (T d) S7 ((opFlat (F := F)).result (W0 m d)) ⊢ _ from Entails.of_eq (held_seven d (W1 m d))) $$ Hbufs
  icases Hs with ⟨Hx, Hp, He, Hflat, Hrow, Hvec, Hout⟩
  -- the lookup
  iapply ((K (F := F)).wp_run (D (F := F)) 𝒱 (EH := EH) (P := P m) κ d 0) $$ [Hst Hp Hflat Hrow Hb Hx He Hvec Hout Hsems Hdealt]
  isplitr; · iexact Hctx
  isplitl [Hst]; · iexact Hst
  isplitl [Hp Hflat Hrow]
  · rw [handed_sum]
    isplitl [Hp Hflat Hrow]
    · isplitl [Hp]
      · rw [show m (pLoc d) = W1 m d p' from (W1_ne m d (by decide)).symm]; iexact Hp
      isplitl [Hflat]; · iexact Hflat
      iexists _; iexact Hrow
    iempintro
  iintro ⟨Hst, Hback⟩
  ihave Hs := (Entails.of_eq (handedBack_sum m d)) $$ Hback
  icases Hs with ⟨⟨Hp, Hflat, Hrow⟩, -⟩
  -- the row as a matrix
  iapply (wp_hlo_within 𝒱 (SparseCore.T d) none Set.univ (op := opVec) (S := S7) opVec_bufs (V := W2 m d)) $$ [Hb Hx Hp He Hflat Hrow Hvec Hout]
  · isplitl [Hb]; · iexact Hb
    rw [held_W2]
    isplitl [Hx]; · iexact Hx
    isplitl [Hp]; · iexact Hp
    isplitl [He]; · iexact He
    isplitl [Hflat]; · iexact Hflat
    isplitl [Hrow]; · iexact Hrow
    isplitl [Hvec] <;> iassumption
  iintro ⟨Hb, Hbufs⟩
  rw [wp_ret]; imodintro
  ihave Hs := (show held (T d) S7 ((opVec (F := F)).result (W2 m d)) ⊢ _ from Entails.of_eq (held_seven d (W3 m d))) $$ Hbufs
  icases Hs with ⟨Hx, Hp, He, -, -, Hvec, Hout⟩
  -- the addition
  unfold SparseCore.Cfg.tcSt
  icases Hst with ⟨HO, Hrest⟩
  iapply (add_call m d) $$ [Hb Hx Hp He Hvec Hout HO Hrest Hsems Hdealt]
  isplitl [Hp He Hrest Hsems]
  · iintro ⟨Hb, Hpost⟩
    ihave Hs := (Entails.of_eq (region_post m d)) $$ Hpost
    icases Hs with ⟨HO, Hx, -, Hout⟩
    imodintro
    isplitl [HO Hrest]
    · isplitl [HO]; · iapply (Entails.of_eq (idle_eq d).symm); iexact HO
      iexact Hrest
    unfold left
    isplitl [Hx Hp He Hout]
    · isplitl [Hx]; · rw [show m (xLoc d) = W3 m d x' from (W3_x m d).symm]; iexact Hx
      isplitl [Hp]; · rw [show m (pLoc d) = W3 m d p' from (W3_p m d).symm]; iexact Hp
      isplitl [He]; · rw [show m (eLoc d) = W3 m d e' from (W3_e m d).symm]; iexact He
      iexact Hout
    isplitl [Hb] <;> iassumption
  isplitl [Hb]; · iexact Hb
  isplitl [HO Hx Hvec Hout]
  · rw [region_pre]
    isplitl [HO]; · iapply (Entails.of_eq (idle_eq d)); iexact HO
    isplitl [Hx]; · iexact Hx
    isplitl [Hvec] <;> iassumption
  isplitr [Hdealt]
  · iapply ((K (F := F)).ctx_levAts κ); iexact Hctx
  iexact Hdealt

/-! ## The run -/

/-- What a final memory is on device `d`: the arguments as launched, the sum in the result's buffer. -/
def Ends (d : Dev nD) (s : (ℓ : Loc nD τ sig) → Buf (Elt F) ℓ) : Prop :=
  s (outLoc d) = summed (m (xLoc d)) (pid m d).toNat (m (eLoc d))
    ∧ s (xLoc d) = m (xLoc d) ∧ s (pLoc d) = m (pLoc d) ∧ s (eLoc d) = m (eLoc d)

/-- A buffer held whole is what the memory has. -/
theorem holds (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨H, HSI⟩
  ihave Ha := (SI_pointsTo_agree (st := s') (ℓ := ℓ) (I := Finset.univ) (q := fullShare) (f := f)) $$ [HSI H]
  · isplitl [HSI] <;> iassumption
  icases Ha with %h
  ipureintro; exact funext fun i => h i (Finset.mem_univ i)

theorem hleft (hm : InRange m) (d : Dev nD) (s' : Phys nD τ sig (Elt F)) : iprop(left m d ∗ SI s') ⊢ (⌜Ends m d s'.mem.mem⌝ : sProp 𝕄) := by
  have hx : iprop(left m d ∗ SI s') ⊢ (⌜s'.mem.mem (xLoc d) = m (xLoc d)⌝ : sProp 𝕄) := by
    unfold left; iintro ⟨⟨H, -⟩, HS⟩; iapply (holds s' (xLoc d) _); isplitl [H] <;> iassumption
  have hp : iprop(left m d ∗ SI s') ⊢ (⌜s'.mem.mem (pLoc d) = m (pLoc d)⌝ : sProp 𝕄) := by
    unfold left; iintro ⟨⟨-, H, -⟩, HS⟩; iapply (holds s' (pLoc d) _); isplitl [H] <;> iassumption
  have he : iprop(left m d ∗ SI s') ⊢ (⌜s'.mem.mem (eLoc d) = m (eLoc d)⌝ : sProp 𝕄) := by
    unfold left; iintro ⟨⟨-, -, H, -⟩, HS⟩; iapply (holds s' (eLoc d) _); isplitl [H] <;> iassumption
  have ho : iprop(left m d ∗ SI s') ⊢ (⌜s'.mem.mem (outLoc d) = sumOut m d⌝ : sProp 𝕄) := by
    unfold left; iintro ⟨⟨-, -, -, H⟩, HS⟩; iapply (holds s' (outLoc d) _); isplitl [H] <;> iassumption
  rw [sumOut_eq m hm] at ho
  have all := fun n h => (⟨ho n h, hx n h, hp n h, he n h⟩ : Ends m d s'.mem.mem)
  exact all

/-- THE RUN: from any memory whose identifiers name rows of the table, on every device, the program ends with the sum in the
    result's buffer, the arguments as launched and every semaphore at zero. -/
theorem run_main [∀ e, Nonempty (Elt F e)] (hm : InRange m) :
    θ_run (Cert.KernelIdeal.defs (F := F)) (Cert.KernelIdeal.threads (F := F)) ⟨m, fun _ => 0, ρ⟩
      fun r => (∀ d : Dev nD, Ends m d r.2.mem) ∧ r.2.sem = fun _ => 0 :=
  SparseCore.Cfg.θ_run_sc_quiescent (K := K (F := F)) (D := D (F := F)) (𝒱 := 𝒱) (EH := EH) (P := P m) (A := ∅) facts v₀
    (fun q _ => match q with | 0 => scalarObl m hm)
    (fun q hq => match q with | 0 => nomatch hq)
    (fun q hq => match q with | 0 => nomatch hq)
    m ρ main dealt (left m) (u₀ (F := F)) (sep_elim_left.trans (hu₀ m)) (hmain m ρ) (fun d s' => Ends m d s'.mem.mem) (hleft m hm)
    _ (fun _ h hz => ⟨h, hz⟩)

end Cert.Proof.Embed

end
-- ==== Proof.Reference.lean ====
/-
  The reference's side: what the precondition says of the identifier, and the reference's result, which is `x` plus the
  table's row the identifier names.
-/
module

public import proofs.«01_k».proof.Proof.Value
public import proofs.«01_k».proof.Proof.Gen.ReferenceIdeal.Run
public import proofs.«01_k».proof.Proof.Gen.Pre_in_range
public import Idealize.ShloMosaic.Lib.ReduceAll
public import Idealize.ShloMosaic.Lib.WordCmp
public import Idealize.ShloMosaic.Lib.Quiescent

@[expose] public section

noncomputable section

namespace Cert.Proof.Embed

open Cert.ReferenceIdeal Cert.ReferenceIdeal.Gen
open Idealize.ShloMosaic Idealize.ShloMosaic.TcCoe Idealize.ShloMosaic.WordCmp Idealize.SL.Sem

variable {F : FTy → Type} [FloatOps F]

/-- A list of one entry has one index. -/
theorem eq_at0 (i : S1.Idx) : i = at0 := funext fun a => match a with
  | ⟨0, _⟩ => Fin.ext (Nat.lt_one_iff.mp (i ⟨0, Nat.one_pos⟩).isLt)

/-! ## The precondition -/

/-- The precondition bounds the identifier: it is the number of a row of the table. -/
theorem bounded (x : FVec F S100000x128 .f32) (p : IVec S1 32) (e : FVec F S90x128 .f32)
    (h : Cert.Pre_in_range.fn (F := F) x p e = fun _ => 1#1) : (p at0).toNat < 90 := by
  have : Subsingleton Cert.Pre_in_range.S_.Idx := ⟨fun a b => funext fun k => k.elim0⟩
  have hbit := Host.reduce_andi_all _ _ _ _ (fun k => k.elim0) (congrFun h fun k => k.elim0) at0
  have hboth : IntOp.andi (IntOp.cmpi .sge (p at0) 0#32) (IntOp.cmpi .slt (p at0) 90#32) = 1#1 := hbit
  rw [cmpi_sge_eq, cmpi_slt_eq, andi_ofBool, ofBool_eq_one_iff, Bool.and_eq_true, decide_eq_true_eq, decide_eq_true_eq] at hboth
  obtain ⟨hlo, hhi⟩ := hboth
  have hsmall := (toInt_nonneg_iff_lt_half (p at0)).mp hlo
  rw [toInt_eq_toNat_of_lt_half hsmall] at hhi
  exact Int.ofNat_lt.mp hhi

/-! ## The reference's result -/

/-- The start of the reference's row, with an identifier below zero counted from the table's end. -/
def wrapped (p : IVec S1 32) : IVec S1x1 32 :=
  broadcastInDim S1x1 ![0] bcast_S1_S1x1_0 (select (cmpi .slt p (broadcastInDim S1 ![] bcast_S_S1 (constantI S_ 32 0#32)))
    (addi p (broadcastInDim S1 ![] bcast_S_S1 (constantI S_ 32 90#32))) p)

/-- Of an identifier that names a row nothing is counted round. -/
theorem wrapped_at (p : IVec S1 32) (hp : (p at0).toNat < 90) (i : S1x1.Idx) : wrapped p i = p at0 := by
  have hneg : IntOp.cmpi .slt (p at0) 0#32 = 0#1 := by
    rw [cmpi_slt_zero, ofBool_decide_eq_zero_iff]
    exact Nat.not_le.mpr (hp.trans (by decide))
  unfold wrapped broadcastInDim
  rw [eq_at0 (fun a => _)]
  exact select_of_eq_zero hneg _ _

/-- The bit saying that the row the reference starts at lies in the table. -/
def inTable (q : IVec S1x1 32) : IVec S1 1 :=
  Host.reduce IntOp.andi (andi (cmpi .sge q (broadcastInDim S1x1 ![] bcast_S_S1x1 (constantI S_ 32 0#32)))
    (cmpi .sle q (broadcastInDim S1x1 ![1] bcast_S1_S1x1_1 (constantI S1 32 89#32)))) (constantI S_ 1 1#1) reducesTo_S1x1_S1_d1 h_S_

/-- It is set of an identifier that names a row. -/
theorem inTable_at (p : IVec S1 32) (hp : (p at0).toNat < 90) (i : S1.Idx) : inTable (wrapped p) i = 1#1 := by
  refine Host.reduce_andi_one _ _ _ _ i rfl fun k => ?_
  show IntOp.andi (IntOp.cmpi .sge (wrapped p k) 0#32) (IntOp.cmpi .sle (wrapped p k) 89#32) = 1#1
  have hsmall : (p at0).toNat < 2 ^ (32 - 1) := hp.trans (by decide)
  rw [wrapped_at p hp, cmpi_sge_zero, cmpi_sle_of_lt hsmall (by decide), andi_ofBool, ofBool_eq_one_iff, Bool.and_eq_true,
    decide_eq_true_eq, decide_eq_true_eq]
  exact ⟨hsmall, Nat.le_of_lt_succ hp⟩

/-- The row the reference takes from the table is the one the identifier names. -/
theorem taken_at {α : Type} (e : S90x128.Idx → α) (p : IVec S1 32) (hp : (p at0).toNat < 90) (i : S1x128.Idx) :
    Host.gather gather_S90x128_S1x1_S1x128_1_0_n_n_0_1_1128 e (wrapped p) i = e (tableAt (p at0).toNat (i 1).val) := by
  have hnone : ∀ a, (gather_S90x128_S1x1_S1x128_1_0_n_n_0_1_1128).batchCoord i a = 0 :=
    fun a => GatherDims.batchCoord_eq_zero _ _ _ (List.not_mem_nil)
  have hint : (p at0).toInt.toNat = (p at0).toNat := by
    rw [toInt_eq_toNat_of_lt_half (hp.trans (by decide))]; rfl
  refine congrArg e (funext fun a => Fin.ext ?_)
  show GatherDims.start _ i (wrapped p) a + GatherDims.batchCoord _ i a + GatherDims.offCoord _ i a = _
  rw [hnone, Nat.add_zero]
  have hcases : a = 0 ∨ a = 1 := match a with
    | ⟨0, _⟩ => .inl rfl
    | ⟨1, _⟩ => .inr rfl
  rcases hcases with rfl | rfl
  · rw [GatherDims.offCoord_eq_zero _ _ _ (by decide), Nat.add_zero]
    unfold GatherDims.start
    rw [dif_pos (by decide), wrapped_at p hp, hint]
    show min (p at0).toNat 89 = (p at0).toNat % 90
    rw [Nat.mod_eq_of_lt hp]
    exact Nat.min_eq_left (Nat.le_of_lt_succ hp)
  · unfold GatherDims.start GatherDims.offCoord
    rw [dif_neg (by decide), dif_pos (by decide), Nat.zero_add]
    exact (Nat.mod_eq_of_lt (i 1).isLt).symm

/-- THE REFERENCE'S RESULT: `x` plus the row the identifier names, for any float values. -/
theorem run_reference (m : (ℓ : Loc nD τ sig) → Buf (Elt F) ℓ) (ρ : Dev nD → PrngReg)
    (hm : ∀ d : Dev nD, (m ((d.tc : Thread nD τ).loc main_arg1) at0).toNat < 90) :
    θ_run defs (onTc (τ := τ) (main (F := F))) ⟨m, fun _ => 0, ρ⟩ fun r => ∀ d : Dev nD,
      r.2.mem ((d.tc : Thread nD τ).loc main_v2)
          = summed (m ((d.tc : Thread nD τ).loc main_arg0)) (m ((d.tc : Thread nD τ).loc main_arg1) at0).toNat
              (m ((d.tc : Thread nD τ).loc main_arg2))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2) := by
  refine (θ_run defs _ _).mono (fun r h d => ⟨(h d).1.trans (funext fun i => ?_), (h d).2⟩) (Value.run m ρ)
  refine congrArg (FloatOps.addf _) ?_
  unfold broadcastInDim
  refine (select_of_eq_one (inTable_at _ (hm d) _) _ _).trans (taken_at _ _ (hm d) _)

/-- The reference ends with its arguments as they were and every semaphore at zero: it declares none. -/
theorem frame_reference (m : (ℓ : Loc nD τ sig) → Buf (Elt F) ℓ) (ρ : Dev nD → PrngReg) :
    θ_run defs (onTc (τ := τ) (main (F := F))) ⟨m, fun _ => 0, ρ⟩ fun r => (∀ d : Dev nD,
      r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2))
      ∧ r.2.sem = fun _ => 0 :=
  (θ_run defs _ _).mono (fun r h => ⟨fun d => (h d).2, sem_eq_zero_of_no_sems (by decide) r.2⟩) (Value.run m ρ)

end Cert.Proof.Embed

end
-- ==== Proof.lean ====
/-
  The claims, assembled: each is read off the kernel's run (Proof/Launch.lean) and the reference's (Proof/Reference.lean),
  both of which hold for any float values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Reference
public import proofs.«01_k».proof.Proof.Gen.Pre_in_range
public import proofs.«01_k».proof.Proof.Gen.ReferenceIdeal.Run
public import proofs.«01_k».proof.Proof.Gen.Reference.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Embed

section Same
variable {F : FTy → Type} [FloatOps F]

/-- The two printed kernels have one text, so their calls run the same bodies: processor by processor and call by call. -/
theorem bodies_same : Cert.Kernel.defs₀ (F := F) = Cert.KernelIdeal.defs₀ := by
  funext q l a
  match q, l, a with
  | .scScalar c, 0, _ => rfl
  | .tc, 1, (t, s) => rfl
  | .tc, 0, _ => rfl
  | .scScalar c, 1, (t, s) => rfl
  | .scVector c i, 0, _ => rfl
  | .scVector c i, 1, (t, s) => rfl

/-- And what the launch and the pipeline make of those bodies is the same. -/
theorem defs_same : Cert.Kernel.defs (F := F) = Cert.KernelIdeal.defs :=
  congrArg (fun b => Cert.KernelIdeal.sc.defs (Pipeline.defs Cert.KernelIdeal.pcfgs b)) bodies_same

/-- The run, of the kernel under its other name. -/
theorem run_kernel (m : (ℓ : Loc Cert.KernelIdeal.nD Cert.KernelIdeal.τ Cert.KernelIdeal.sig) → Buf (Elt F) ℓ)
    (ρ : Dev Cert.KernelIdeal.nD → PrngReg) (hm : InRange m) :
    θ_run (Cert.Kernel.defs (F := F)) (Cert.Kernel.threads (F := F)) ⟨m, fun _ => 0, ρ⟩
      fun r => (∀ d, Ends m d r.2.mem) ∧ r.2.sem = fun _ => 0 := by
  rw [defs_same]
  exact run_main m ρ hm

end Same

/-- The kernel's frame: from any memory with the identifier in range it ends, its arguments as they were and its semaphores
    at zero. -/
theorem frame_kernel : Cert.quiescent_Kernel := fun m ρ h =>
  (θ_run Cert.Kernel.defs _ _).mono (fun _ hr => ⟨fun d => (hr.1 d).2, hr.2⟩)
    (run_kernel (F := Bits) m ρ fun d => bounded _ _ _ (h d))

/-- The same of the kernel over the extended reals. -/
theorem frame_kernelIdeal : Cert.quiescent_KernelIdeal := fun m ρ h =>
  (θ_run Cert.KernelIdeal.defs _ _).mono (fun _ hr => ⟨fun d => (hr.1 d).2, hr.2⟩)
    (run_main (F := Ideal) m ρ fun d => bounded _ _ _ (h d))

/-- The reference's frame over the extended reals: it needs no range. -/
theorem frame_referenceIdeal : Cert.quiescent_ReferenceIdeal := fun m ρ _ => frame_reference (F := Ideal) m ρ

/-- The reference's frame over the float words. -/
theorem frame_referenceBits : Cert.quiescent_Reference := fun m ρ _ => frame_reference (F := Bits) m ρ

/-- Kernel and reference leave, over the extended reals, the same result: `x` plus the row that the identifier names. -/
theorem same_ideal : Cert.algebraic_KernelIdeal_ReferenceIdeal := fun m ρ m' ρ' h hargs => by
  have hm : InRange m := fun d => bounded _ _ _ (h d)
  refine ⟨fun d => summed (m (xLoc d)) (pid m d).toNat (m (eLoc d)),
    (θ_run Cert.KernelIdeal.defs _ _).mono (fun _ hr d => hr.1 d) (run_main (F := Ideal) m ρ hm),
    (θ_run Cert.ReferenceIdeal.defs _ _).mono (fun _ hr d => ⟨(hr d).1.trans ?_, (hr d).2⟩)
      (run_reference (F := Ideal) m' ρ' fun d => by rw [(hargs d).2.1]; exact hm d)⟩
  rw [(hargs d).1, (hargs d).2.1, (hargs d).2.2]
  rfl

/-- They leave the same words, too: both add the same two numbers, once, in the same order. -/
theorem same_words : Cert.bitexact_Kernel_Reference := fun m ρ m' ρ' h hargs => by
  have hm : InRange (F := Bits) m := fun d => bounded _ _ _ (h d)
  refine ⟨fun d => summed (F := Bits) (m (xLoc d)) (pid (F := Bits) m d).toNat (m (eLoc d)),
    (θ_run Cert.Kernel.defs _ _).mono (fun _ hr d => hr.1 d) (run_kernel (F := Bits) m ρ hm),
    (θ_run Cert.ReferenceIdeal.defs _ _).mono (fun _ hr d => ⟨(hr d).1.trans ?_, (hr d).2⟩)
      (run_reference (F := Bits) m' ρ' fun d => (congrArg (fun p => (p at0).toNat < 90) (hargs d).2.1).mpr (hm d))⟩
  have hx := (hargs d).1
  have hp := (hargs d).2.1
  have he := (hargs d).2.2
  exact (congr (congr (congrArg (summed (F := Bits)) hx) (congrArg (fun p => (p at0).toNat) hp)) he)

/-- Everything that is claimed. -/
theorem claim : Cert.Claim :=
  ⟨Cert.Kernel.Gen.facts, Cert.KernelIdeal.Gen.facts, Cert.ReferenceIdeal.Gen.facts, Cert.Reference.Gen.facts,
    Cert.Pre_in_range.Gen.facts, frame_kernel, frame_kernelIdeal, frame_referenceIdeal,
    fun m ρ _ => frame_referenceIdeal m ρ trivial, frame_referenceBits, trivial, same_ideal, same_words⟩

end Cert.Proof

end
